-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x128x9x128x128 : Shape := ⟨5, ![1, 128, 9, 128, 128]⟩
abbrev S16x1x4x9x128x128 : Shape := ⟨6, ![16, 1, 4, 9, 128, 128]⟩
abbrev S16 : Shape := ⟨1, ![16]⟩
abbrev S1 : Shape := ⟨1, ![1]⟩
abbrev S_ : Shape := ⟨0, ![]⟩
abbrev S1x1x4x9x128x128 : Shape := ⟨6, ![1, 1, 4, 9, 128, 128]⟩
abbrev S1x4x9x128x128 : Shape := ⟨5, ![1, 4, 9, 128, 128]⟩

abbrev nBuf : Space → Nat
  | .hbm => 2
  | .vmem => 1
  | .smem => 0
  | _ => 0

abbrev bufTy : (tb : Table) → Fin (tcTables nBuf tb) → BufTy
  | .hbm, ⟨0, _⟩ => ⟨S1x128x9x128x128, .f32⟩
  | .hbm, ⟨1, _⟩ => ⟨S1x128x9x128x128, .f32⟩
  | .local _ .vmem, ⟨0, _⟩ => ⟨S16x1x4x9x128x128, .f32⟩
  | _, _ => ⟨S1x128x9x128x128, .f32⟩

abbrev bufScoped : (cs : CoreSpace) → Fin (nBuf (.core cs)) → Bool
  | .vmem, ⟨0, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_scratch0 : Ref sig .tc := ⟨.vmem, 0, rfl⟩

abbrev nD : Nat := 1
abbrev τ : Topo := Topo.v7x

variable {F : FTy → Type} [FloatOps F]

abbrev grid0 : Pipeline.Grid := .none
-- ==== ReferenceIdeal.lean ====
abbrev S1x128x9x128x128 : Shape := ⟨5, ![1, 128, 9, 128, 128]⟩

abbrev nBuf : Space → Nat
  | .hbm => 1
  | .vmem => 0
  | .smem => 0
  | _ => 0

abbrev bufTy : (tb : Table) → Fin (tcTables nBuf tb) → BufTy
  | .hbm, ⟨0, _⟩ => ⟨S1x128x9x128x128, .f32⟩
  | _, _ => ⟨S1x128x9x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Schedule.lean ====
/-
  The order in which a ring of slots is filled and emptied, as plain data.

  A copy of `n` blocks through `nb` slots is a list of acts: a block is loaded into its slot, turned (its load
  awaited and its store started), and drained (its store awaited). A state says at which stage each block stands and
  which slots are free. An act is possible in a state or it is not; `St.run` plays a list of acts and fails at the
  first impossible one.
-/
module

public import Mathlib.Logic.Function.Basic
public import Mathlib.Data.Fintype.Basic

@[expose] public section

namespace Cert.Proof

variable {n nb : ℕ}

/-- What the copy does next, and to which block. -/
inductive Act (n : ℕ) where
  /-- Start the block's load into its slot. -/
  | load (s : Fin n)
  /-- Wait for the block's load and start its store. -/
  | turn (s : Fin n)
  /-- Wait for the block's store. -/
  | drain (s : Fin n)

/-- Where a block stands. -/
inductive Stage where
  | waiting
  | loading
  | storing
  | done
  deriving DecidableEq

/-- Where every block stands, and which slots are free. -/
structure St (n nb : ℕ) where
  stage : Fin n → Stage
  free : Fin nb → Bool

namespace St

/-- The state before the first act: no block has moved, every slot is free. -/
def start : St n nb := ⟨fun _ => .waiting, fun _ => true⟩

/-- One act: the state after it, if the state before allows it. -/
def step (home : Fin n → Fin nb) (σ : St n nb) : Act n → Option (St n nb)
  | .load s =>
    if σ.stage s = .waiting ∧ σ.free (home s) = true then
      some ⟨Function.update σ.stage s .loading, Function.update σ.free (home s) false⟩
    else none
  | .turn s =>
    if σ.stage s = .loading then some ⟨Function.update σ.stage s .storing, σ.free⟩ else none
  | .drain s =>
    if σ.stage s = .storing ∧ σ.free (home s) = false then
      some ⟨Function.update σ.stage s .done, Function.update σ.free (home s) true⟩
    else none

/-- A list of acts, one after the other. -/
def run (home : Fin n → Fin nb) (σ : St n nb) : List (Act n) → Option (St n nb)
  | [] => some σ
  | a :: l => (σ.step home a).bind fun σ' => run home σ' l

/-- Every block has been copied and every slot is free. -/
def Finished (σ : St n nb) : Prop := (∀ s, σ.stage s = .done) ∧ ∀ b, σ.free b = true

instance (σ : St n nb) : Decidable σ.Finished := inferInstanceAs (Decidable (_ ∧ _))

end St

/-- A list of acts is complete: played from the start, every act is possible and every block ends up copied. -/
def Complete (home : Fin n → Fin nb) (l : List (Act n)) : Prop :=
  match St.run home St.start l with
  | none => False
  | some σ => σ.Finished

instance (home : Fin n → Fin nb) (l : List (Act n)) : Decidable (Complete home l) := by
  unfold Complete
  split <;> infer_instance

/-- A complete list of acts reaches a finished state. -/
theorem Complete.reaches {home : Fin n → Fin nb} {l : List (Act n)} (h : Complete home l) :
    ∃ σ, St.run home St.start l = some σ ∧ σ.Finished := by
  unfold Complete at h
  split at h
  · exact h.elim
  · exact ⟨_, ‹_›, h⟩

/-! ## The kernel's schedule: 32 blocks, 16 slots, a store awaited eight blocks after its start -/

/-- Block `s` goes through slot `s mod 16`. -/
def home (s : Fin 32) : Fin 16 := ⟨s.val % 16, Nat.mod_lt _ (by decide)⟩

/-- The first sixteen loads. -/
def opening : List (Act 32) := (List.finRange 16).map fun b => .load ⟨b.val, by omega⟩

/-- Block `s` is turned; from block 8 to block 23, the block eight before it is drained and the block eight after it
    is loaded into the slot this frees. -/
def round (s : Fin 32) : List (Act 32) :=
  if h : 8 ≤ s.val ∧ s.val < 24 then [.turn s, .drain ⟨s.val - 8, by omega⟩, .load ⟨s.val + 8, by omega⟩] else [.turn s]

/-- The sixteen stores still in flight are awaited. -/
def closing : List (Act 32) := (List.finRange 16).map fun b => .drain ⟨b.val + 16, by omega⟩

/-- The whole schedule. -/
def schedule : List (Act 32) := opening ++ (List.finRange 32).flatMap round ++ closing

/-- The schedule never refills a slot in use and copies every block. -/
theorem schedule_complete : Complete home schedule := by decide +kernel

end Cert.Proof

end
-- ==== Proof.Ring.lean ====
/-
  Copying blocks through a ring of slots by transfers, for any complete schedule.

  A `Ring` names the copy's ends: block `s` is read from `x s`, goes through slot `home s`, and is written to `o s`;
  each slot has a semaphore for its loads and one for its stores. The state of the schedule says what the core holds:
  for each block its two ends, or the transfer it is in; for each free slot the slot and its two semaphores at zero.
  Each act takes what one state holds to what the next state holds, so a complete schedule takes every block's two
  ends to the same ends with the block landed.
-/
module

public import proofs.«01_k».proof.Proof.Schedule
public import Idealize.ShloMosaic.Lib.Pipeline.Routed
public import Idealize.ShloMosaic.Lib.Tactic

@[expose] public section

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} {nD : ℕ} {τ : Topo} {sig : RefSig} {Λ : Labels} {S : Shape} {n nb : ℕ}

local notation "𝕄" => MT nD τ sig Unit (Elt F) ℕ (Pipeline.UC sig nD τ) ℕ

/-- The ends of a copy of `n` blocks of shape `S` through `nb` slots. -/
structure Ring (sig : RefSig) (S : Shape) (n nb : ℕ) where
  /-- Where block `s` is read. -/
  x : Fin n → Memref sig .tc .hbm S .f32
  /-- Where block `s` is written. -/
  o : Fin n → Memref sig .tc .hbm S .f32
  /-- The slots. -/
  slot : Fin nb → Memref sig .tc .vmem S .f32
  /-- The semaphore of a slot's loads. -/
  semIn : Fin nb → DmaSem sig
  /-- The semaphore of a slot's stores. -/
  semOut : Fin nb → DmaSem sig
  /-- The slot a block goes through. -/
  home : Fin n → Fin nb

namespace Ring

variable (R : Ring sig S n nb)

/-! ## The program -/

/-- Start block `s`'s load. -/
abbrev loadEff (s : Fin n) : TpuEff nD τ sig (Elt F) Λ .tc PUnit :=
  .enqueueDma (R.x s) (.here (R.slot (R.home s))) (.dma (R.semIn (R.home s)))
    (View.wordExact_bits rfl) (View.wordExact_bits rfl) ⟨Or.inl rfl, trivial⟩
/-- Wait for block `s`'s load. -/
abbrev loadedEff (s : Fin n) : TpuEff nD τ sig (Elt F) Λ .tc PUnit :=
  .waitDma2 (R.semIn (R.home s)) (R.x s) (R.slot (R.home s)) (View.wordExact_bits rfl) (View.wordExact_bits rfl)
/-- Start block `s`'s store. -/
abbrev storeEff (s : Fin n) : TpuEff nD τ sig (Elt F) Λ .tc PUnit :=
  .enqueueDma (R.slot (R.home s)) (.here (R.o s)) (.dma (R.semOut (R.home s)))
    (View.wordExact_bits rfl) (View.wordExact_bits rfl) ⟨Or.inl rfl, trivial⟩
/-- Wait for block `s`'s store. -/
abbrev storedEff (s : Fin n) : TpuEff nD τ sig (Elt F) Λ .tc PUnit :=
  .waitDma2 (R.semOut (R.home s)) (R.slot (R.home s)) (R.o s) (View.wordExact_bits rfl) (View.wordExact_bits rfl)

/-- The program of a list of acts. -/
def prog : List (Act n) → Prog (TpuEff nD τ sig (Elt F) Λ .tc) PUnit
  | [] => .ret ⟨⟩
  | .load s :: l => .op (R.loadEff s) fun _ => prog l
  | .turn s :: l => .op (R.loadedEff s) fun _ => .op (R.storeEff s) fun _ => prog l
  | .drain s :: l => .op (R.storedEff s) fun _ => prog l

/-! ## What a state holds -/

variable (c : Dev nD) (fx : ∀ s, Buf (Elt F) ((R.x s).view.loc (c : Thread nD τ))) (fo : ∀ s, Buf (Elt F) ((R.o s).view.loc (c : Thread nD τ)))

/-- Block `s`'s elements where it is read. -/
abbrev srcPt (s : Fin n) : sProp 𝕄 := (R.x s).view.loc (c : Thread nD τ) ↦[(R.x s).view.set]{fullShare} fx s
/-- Block `s`'s elements where it is written, before the copy. -/
abbrev oldPt (s : Fin n) : sProp 𝕄 := (R.o s).view.loc (c : Thread nD τ) ↦[(R.o s).view.set]{fullShare} fo s
/-- Block `s`'s elements where it is written, after the copy: what is read at its source, written over what was there. -/
abbrev newPt (s : Fin n) : sProp 𝕄 :=
  (R.o s).view.loc (c : Thread nD τ) ↦[(R.o s).view.set]{fullShare}
    (R.o s).view.write (Elt F) (fo s) ((R.x s).view.read (Elt F) (fx s)) Finset.univ
/-- A slot's elements. -/
abbrev slotPt (b : Fin nb) (f : Buf (Elt F) ((R.slot b).view.loc (c : Thread nD τ))) : sProp 𝕄 :=
  (R.slot b).view.loc (c : Thread nD τ) ↦[(R.slot b).view.set]{fullShare} f
/-- A semaphore of the core at zero. -/
abbrev zeroAt (d : DmaSem sig) : sProp 𝕄 := semVal ((c : Thread nD τ), SemLoc.dma d) 0

/-- Block `s` on its way into its slot: its load delivers the slot holding the block, and the source back. -/
abbrev loadFlight (s : Fin n) (f : Buf (Elt F) ((R.slot (R.home s)).view.loc (c : Thread nD τ))) : sProp 𝕄 :=
  Transfers.Flight countersEmb (c : Thread nD τ) (.dma (R.semIn (R.home s))) () (R.slot (R.home s)).view.dmaCredit
    iprop(R.slotPt c (R.home s) ((R.slot (R.home s)).view.write (Elt F) f ((R.x s).view.read (Elt F) (fx s)) Finset.univ) ∗ R.srcPt c fx s)
/-- Block `s` on its way out of its slot: its store delivers the block landed, and the slot back. -/
abbrev storeFlight (s : Fin n) (f : Buf (Elt F) ((R.slot (R.home s)).view.loc (c : Thread nD τ))) : sProp 𝕄 :=
  Transfers.Flight countersEmb (c : Thread nD τ) (.dma (R.semOut (R.home s))) () (R.o s).view.dmaCredit
    iprop(R.newPt c fx fo s ∗ R.slotPt c (R.home s) f)

/-- What the core holds of block `s` at a stage. -/
def blockAt (s : Fin n) : Stage → sProp 𝕄
  | .waiting => iprop(R.srcPt c fx s ∗ R.oldPt c fo s)
  | .loading => iprop((∃ f, R.loadFlight c fx s f) ∗ zeroAt c (R.semOut (R.home s)) ∗ R.oldPt c fo s)
  | .storing => iprop((∃ f, R.storeFlight c fx fo s f) ∗ zeroAt c (R.semIn (R.home s)) ∗ R.srcPt c fx s)
  | .done => iprop(R.srcPt c fx s ∗ R.newPt c fx fo s)

/-- What the core holds of slot `b`: a free slot at some contents, with its two semaphores. -/
def slotAt (b : Fin nb) : Bool → sProp 𝕄
  | true => iprop((∃ f, R.slotPt c b f) ∗ zeroAt c (R.semIn b) ∗ zeroAt c (R.semOut b))
  | false => iprop(emp)

/-- What the core holds in a state. -/
def held (σ : St n nb) : sProp 𝕄 :=
  iprop(bigSep Finset.univ (fun s => R.blockAt c fx fo s (σ.stage s))
    ∗ bigSep Finset.univ (fun b => R.slotAt c b (σ.free b))
    ∗ ∃ W, owes (c : Thread nD τ) 0 W)

end Ring

/-- One member of a family indexed by a state, with the way back when that member alone has changed. -/
theorem bigSep_change {M : Type*} [URA M] {I A : Type} [Fintype I] [DecidableEq I] (P : I → A → sProp M) (f : I → A) (i : I) (v : A) :
    bigSep Finset.univ (fun j => P j (f j))
      ⊢ iprop(P i (f i) ∗ (P i v -∗ bigSep Finset.univ (fun j => P j (Function.update f i v j)))) := by
  rw [bigSep_univ_split i, bigSep_univ_split (Φ := fun j => P j (Function.update f i v j)) i, Function.update_self,
    bigSep_congr (s := Finset.univ.erase i) (Φ := fun j => P j (Function.update f i v j)) (Ψ := fun j => P j (f j))
      fun j hj => by rw [Function.update_of_ne (Finset.ne_of_mem_erase hj)]]
  refine (show iprop(P i (f i) ∗ bigSep (Finset.univ.erase i) fun j => P j (f j)) ⊢ _ from ?_)
  iintro ⟨Hi, Hr⟩
  isplitl [Hi]; · iexact Hi
  iintro Hv
  iapply (show iprop(P i v ∗ bigSep (Finset.univ.erase i) fun j => P j (f j)) ⊢ _ from .rfl)
  isplitl [Hv]; · iexact Hv
  iexact Hr

namespace Ring

variable (R : Ring sig S n nb) (c : Dev nD)
  (fx : ∀ s, Buf (Elt F) ((R.x s).view.loc (c : Thread nD τ))) (fo : ∀ s, Buf (Elt F) ((R.o s).view.loc (c : Thread nD τ)))
  {defs : Defs nD τ sig (Elt F) Λ} {𝒱 : Variants}

/-! ## The acts -/

/-- A load, issued from a waiting block and a free slot. -/
theorem wp_load (hS : 0 < S.numel) (s : Fin n) {k : PUnit → Prog (TpuEff nD τ sig (Elt F) Λ .tc) PUnit} {Q : PUnit → sProp 𝕄} :
    iprop(R.blockAt c fx fo s .waiting ∗ R.slotAt c (R.home s) true)
      ⊢ iprop((R.blockAt c fx fo s .loading -∗ wp frame (wpE defs 𝒱 (c : Thread nD τ) none) Set.univ (k ⟨⟩) Q)
          -∗ wp frame (wpE defs 𝒱 (c : Thread nD τ) none) Set.univ (.op (R.loadEff s) k) Q) := by
  unfold blockAt slotAt
  iintro ⟨⟨Hx, Ho⟩, ⟨%f, Hs⟩, Hi, Hu⟩ Hk
  iapply (Transfers.wp_dmaLocal countersEmb 𝒱 (c : Thread nD τ) none () (R.slot (R.home s)).view.dmaCredit rfl
    (View.dmaCredit_pos _ hS) (Finset.Subset.refl _)) $$ [Hx Hs Hi]
  · isplitl [Hx]; · iexact Hx
    isplitl [Hs]; · iexact Hs
    iexact Hi
  iintro HF
  iapply Hk
  isplitl [HF]; · iexists f; iexact HF
  isplitl [Hu]; · iexact Hu
  iexact Ho

/-- A load awaited and the block's store issued. -/
theorem wp_turn (hS : 0 < S.numel) (s : Fin n) {k : PUnit → Prog (TpuEff nD τ sig (Elt F) Λ .tc) PUnit} {Q : PUnit → sProp 𝕄} :
    iprop(R.blockAt c fx fo s .loading ∗ ∃ W, owes (c : Thread nD τ) 0 W)
      ⊢ iprop((iprop(R.blockAt c fx fo s .storing ∗ ∃ W, owes (c : Thread nD τ) 0 W)
            -∗ wp frame (wpE defs 𝒱 (c : Thread nD τ) none) Set.univ (k ⟨⟩) Q)
          -∗ wp frame (wpE defs 𝒱 (c : Thread nD τ) none) Set.univ (.op (R.loadedEff s) fun _ => .op (R.storeEff s) k) Q) := by
  unfold blockAt
  iintro ⟨⟨⟨%f, HF⟩, Hu, Ho⟩, %W, HW⟩ Hk
  iapply (Transfers.wp_waitLocal countersEmb 𝒱 (c : Thread nD τ) none () rfl) $$ [HF HW]
  · isplitl [HF]; · iexact HF
    iexact HW
  iintro ⟨⟨Hs, Hx⟩, Hi, HW⟩
  iapply (Transfers.wp_dmaLocal countersEmb 𝒱 (c : Thread nD τ) none () (R.o s).view.dmaCredit rfl
    (View.dmaCredit_pos _ hS) (Finset.Subset.refl _)) $$ [Hs Ho Hu]
  · isplitl [Hs]; · iexact Hs
    isplitl [Ho]; · iexact Ho
    iexact Hu
  rw [ReadAs.apply_same, View.read_write_univ]
  iintro HF
  iapply Hk
  isplitr [HW]
  · isplitl [HF]; · iexists _; iexact HF
    isplitl [Hi]; · iexact Hi
    iexact Hx
  iexists _; iexact HW

/-- A store awaited: the block is done and its slot free. -/
theorem wp_drain (s : Fin n) {k : PUnit → Prog (TpuEff nD τ sig (Elt F) Λ .tc) PUnit} {Q : PUnit → sProp 𝕄} :
    iprop(R.blockAt c fx fo s .storing ∗ ∃ W, owes (c : Thread nD τ) 0 W)
      ⊢ iprop((iprop(R.blockAt c fx fo s .done ∗ R.slotAt c (R.home s) true ∗ ∃ W, owes (c : Thread nD τ) 0 W)
            -∗ wp frame (wpE defs 𝒱 (c : Thread nD τ) none) Set.univ (k ⟨⟩) Q)
          -∗ wp frame (wpE defs 𝒱 (c : Thread nD τ) none) Set.univ (.op (R.storedEff s) k) Q) := by
  unfold blockAt slotAt
  iintro ⟨⟨⟨%f, HF⟩, Hi, Hx⟩, %W, HW⟩ Hk
  iapply (Transfers.wp_waitLocal countersEmb 𝒱 (c : Thread nD τ) none () rfl) $$ [HF HW]
  · isplitl [HF]; · iexact HF
    iexact HW
  iintro ⟨⟨Ho, Hs⟩, Hu, HW⟩
  iapply Hk
  isplitl [Hx Ho]
  · isplitl [Hx]; · iexact Hx
    iexact Ho
  isplitr [HW]
  · isplitl [Hs]; · iexists f; iexact Hs
    isplitl [Hi]; · iexact Hi
    iexact Hu
  iexists _; iexact HW

/-! ## The run -/

/-- A list of acts takes what a state holds to what the state it reaches holds. -/
theorem wp_prog (hS : 0 < S.numel) {Q : PUnit → sProp 𝕄} : ∀ (l : List (Act n)) (σ σ' : St n nb), St.run R.home σ l = some σ' →
    (R.held c fx fo σ' ⊢ Q ⟨⟩) → R.held c fx fo σ ⊢ wp frame (wpE defs 𝒱 (c : Thread nD τ) none) Set.univ (R.prog l) Q
  | [], σ, σ', h, hQ => by
    obtain rfl : σ = σ' := Option.some.inj h
    rw [prog, wp_ret]
    exact hQ.trans fupd_intro
  | .load s :: l, σ, σ', h, hQ => by
    obtain ⟨σ₁, h₁, h₂⟩ := Option.bind_eq_some_iff.mp h
    obtain ⟨⟨hs, hb⟩, h₁⟩ := Option.ite_none_right_eq_some.mp h₁
    obtain rfl := Option.some.inj h₁
    unfold held
    iintro ⟨HS, HB, HW⟩
    ihave H := (bigSep_change (R.blockAt c fx fo) σ.stage s .loading) $$ HS
    icases H with ⟨Hs, HS⟩
    ihave H := (bigSep_change (R.slotAt c) σ.free (R.home s) false) $$ HB
    icases H with ⟨Hb, HB⟩
    rw [hs, hb]
    iapply (R.wp_load c fx fo hS s) $$ [Hs Hb]
    · isplitl [Hs] <;> iassumption
    iintro Hs
    iapply (wp_prog hS l _ σ' h₂ hQ)
    unfold held
    isplitl [HS Hs]; · iapply HS $$ Hs
    isplitl [HB]
    · iapply HB
      unfold slotAt
      iempintro
    iexact HW
  | .turn s :: l, σ, σ', h, hQ => by
    obtain ⟨σ₁, h₁, h₂⟩ := Option.bind_eq_some_iff.mp h
    obtain ⟨hs, h₁⟩ := Option.ite_none_right_eq_some.mp h₁
    obtain rfl := Option.some.inj h₁
    unfold held
    iintro ⟨HS, HB, HW⟩
    ihave H := (bigSep_change (R.blockAt c fx fo) σ.stage s .storing) $$ HS
    icases H with ⟨Hs, HS⟩
    rw [hs]
    iapply (R.wp_turn c fx fo hS s) $$ [Hs HW]
    · isplitl [Hs] <;> iassumption
    iintro ⟨Hs, HW⟩
    iapply (wp_prog hS l _ σ' h₂ hQ)
    unfold held
    isplitl [HS Hs]; · iapply HS $$ Hs
    isplitl [HB] <;> iassumption
  | .drain s :: l, σ, σ', h, hQ => by
    obtain ⟨σ₁, h₁, h₂⟩ := Option.bind_eq_some_iff.mp h
    obtain ⟨⟨hs, hb⟩, h₁⟩ := Option.ite_none_right_eq_some.mp h₁
    obtain rfl := Option.some.inj h₁
    unfold held
    iintro ⟨HS, HB, HW⟩
    ihave H := (bigSep_change (R.blockAt c fx fo) σ.stage s .done) $$ HS
    icases H with ⟨Hs, HS⟩
    ihave H := (bigSep_change (R.slotAt c) σ.free (R.home s) true) $$ HB
    icases H with ⟨-, HB⟩
    rw [hs]
    iapply (R.wp_drain c fx fo s) $$ [Hs HW]
    · isplitl [Hs] <;> iassumption
    iintro ⟨Hs, Hb, HW⟩
    iapply (wp_prog hS l _ σ' h₂ hQ)
    unfold held
    isplitl [HS Hs]; · iapply HS $$ Hs
    isplitl [HB Hb]; · iapply HB $$ Hb
    iexact HW

/-- A complete list of acts copies every block: from every block's two ends, every slot at some contents and every
    semaphore at zero, to the same with every block landed. -/
theorem wp_complete (hS : 0 < S.numel) {l : List (Act n)} (hl : Complete R.home l) :
    iprop((bigSep Finset.univ (fun s => R.srcPt c fx s) ∗ bigSep Finset.univ (fun s => R.oldPt c fo s))
        ∗ bigSep Finset.univ (fun b => R.slotAt c b true) ∗ ∃ W, owes (c : Thread nD τ) 0 W)
      ⊢ wp frame (wpE defs 𝒱 (c : Thread nD τ) none) Set.univ (R.prog l) fun _ =>
        iprop((bigSep Finset.univ (fun s => R.srcPt c fx s) ∗ bigSep Finset.univ (fun s => R.newPt c fx fo s))
          ∗ bigSep Finset.univ (fun b => R.slotAt c b true) ∗ ∃ W, owes (c : Thread nD τ) 0 W) := by
  obtain ⟨σ, hσ, hdone, hfree⟩ := hl.reaches
  have hstart := congrArg (fun P => iprop(P ∗ bigSep Finset.univ (fun b => R.slotAt c b true) ∗ ∃ W, owes (c : Thread nD τ) 0 W))
    (bigSep_sep Finset.univ (fun s => R.srcPt c fx s) (fun s => R.oldPt c fo s))
  have hend : R.held c fx fo σ = R.held c fx fo ⟨fun _ => .done, fun _ => true⟩ := by
    congr 1
    obtain ⟨stage, free⟩ := σ
    rw [St.mk.injEq]
    exact ⟨funext hdone, funext hfree⟩
  have hfinal := congrArg (fun P => iprop(P ∗ bigSep Finset.univ (fun b => R.slotAt c b true) ∗ ∃ W, owes (c : Thread nD τ) 0 W))
    (bigSep_sep Finset.univ (fun s => R.srcPt c fx s) (fun s => R.newPt c fx fo s))
  refine BIBase.Entails.trans (BIBase.Entails.of_eq hstart.symm) (R.wp_prog c fx fo hS l _ σ hσ ?_)
  rw [hend]
  exact BIBase.Entails.of_eq hfinal

end Ring

end Cert.Proof

end
-- ==== Proof.Pieces.lean ====
/-
  A buffer held whole and held in pieces, and a block landed at its own place.
-/
module

public import Idealize.ShloMosaic.Lib.Pipeline.Routed
public import Idealize.ShloMosaic.Lib.Tactic

@[expose] public section

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} {nD : ℕ} {τ : Topo} {sig : RefSig}

local notation "𝕄" => MT nD τ sig Unit (Elt F) ℕ (Pipeline.UC sig nD τ) ℕ

/-- The sets `K` cut a buffer's elements into disjoint pieces. -/
structure Cuts {I T : Type} [Fintype I] [DecidableEq I] [Fintype T] (K : T → Finset I) : Prop where
  /-- Every element is in a piece. -/
  cover : ∀ i, ∃ t, i ∈ K t
  /-- No element is in two. -/
  apart : ∀ t t', t ≠ t' → Disjoint (K t) (K t')

theorem Cuts.biUnion_eq {I T : Type} [Fintype I] [DecidableEq I] [Fintype T] {K : T → Finset I} (h : Cuts K) :
    Finset.univ.biUnion K = Finset.univ :=
  Finset.eq_univ_iff_forall.mpr fun i => by
    obtain ⟨t, ht⟩ := h.cover i
    exact Finset.mem_biUnion.mpr ⟨t, Finset.mem_univ t, ht⟩

/-- A buffer held whole is its pieces, each held at the same contents. -/
theorem pointsTo_pieces {ℓ : Loc nD τ sig} {T : Type} [Fintype T] {K : T → Finset (Idx ℓ)} (h : Cuts K) (f : Buf (Elt F) ℓ) :
    (ℓ ↦{fullShare} f : sProp 𝕄) = bigSep Finset.univ fun t => ℓ ↦[K t]{fullShare} f := by
  rw [← pointsTo_biUnion Finset.univ K fun t _ t' _ => h.apart t t', h.biUnion_eq]

/-- Pieces held at contents each its own are the buffer whole at some contents. -/
theorem pointsTo_pieces_join {ℓ : Loc nD τ sig} [Nonempty (Buf (Elt F) ℓ)] {T : Type} [Fintype T] [DecidableEq T]
    {K : T → Finset (Idx ℓ)} (h : Cuts K) :
    bigSep Finset.univ (fun t => iprop(∃ f, ℓ ↦[K t]{fullShare} f)) ⊢ (iprop(∃ f, ℓ ↦{fullShare} f) : sProp 𝕄) := by
  refine (bigSep_exists_pi Finset.univ fun t f => (ℓ ↦[K t]{fullShare} f : sProp 𝕄)).trans ?_
  iintro ⟨%fs, H⟩
  ihave H := (pointsTo_biUnion_join Finset.univ K fs (Classical.arbitrary _) fun t _ t' _ => h.apart t t') $$ H
  icases H with ⟨%g, -, H⟩
  rw [h.biUnion_eq]
  iexists g
  iexact H

/-- What a view reads of some contents, written through the view over any other, is those contents on the view's elements. -/
theorem pointsTo_landed (c : Dev nD) {sp : Space} {S : Shape} {e : EltTy} (v : View sig .tc sp S e)
    (f g : Buf (Elt F) (v.loc (c : Thread nD τ))) :
    (v.loc (c : Thread nD τ) ↦[v.set]{fullShare} v.write (Elt F) f (v.read (Elt F) g) Finset.univ : sProp 𝕄)
      = v.loc (c : Thread nD τ) ↦[v.set]{fullShare} g :=
  pointsTo_congr fun i hi => by
    obtain ⟨x, -, rfl⟩ := Finset.mem_map.mp hi
    rw [View.write_emb_of_mem _ _ (Finset.mem_univ x), View.read_apply, cast_cast, cast_eq]

end Cert.Proof

end
-- ==== Proof.KernelEnds.lean ====
/-
  The kernel's body as a ring's program, and the kernel's arrays, scratch buffer and semaphores as the ring's ends.
-/
module

public import proofs.«01_k».proof.Proof.Ring
public import proofs.«01_k».proof.Proof.Pieces
public import proofs.«01_k».proof.Proof.Gen.Kernel.Launch
public import proofs.«01_k».proof.Proof.Gen.Kernel.Points

@[expose] public section

noncomputable section

namespace Cert.Kernel.Copy

open Cert.Kernel Cert.Kernel.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UC sig nD τ) ℕ

/-! ## The ends -/

/-- Block `s` is rows `4 s` to `4 s + 3` of the second axis. -/
theorem inb_rows (s : Fin 32) (a : Fin 5) :
    (![0, 4 * s.val, 0, 0, 0] : Fin 5 → ℕ) a + S1x4x9x128x128.size a ≤ S1x128x9x128x128.size a := by
  have h := s.isLt
  match a with
  | 0 => exact (by decide : 0 + 1 ≤ 1)
  | 1 => exact (show 4 * s.val + 4 ≤ 128 by omega)
  | 2 => exact (by decide : 0 + 9 ≤ 9)
  | 3 => exact (by decide : 0 + 128 ≤ 128)
  | 4 => exact (by decide : 0 + 128 ≤ 128)

/-- Slot `b` is plane `b` of the first axis. -/
theorem inb_plane (b : Fin 16) (a : Fin 6) :
    (![b.val, 0, 0, 0, 0, 0] : Fin 6 → ℕ) a + S1x1x4x9x128x128.size a ≤ S16x1x4x9x128x128.size a := by
  have h := b.isLt
  match a with
  | 0 => exact (show b.val + 1 ≤ 16 by omega)
  | 1 => exact (by decide : 0 + 1 ≤ 1)
  | 2 => exact (by decide : 0 + 4 ≤ 4)
  | 3 => exact (by decide : 0 + 9 ≤ 9)
  | 4 => exact (by decide : 0 + 128 ≤ 128)
  | 5 => exact (by decide : 0 + 128 ≤ 128)

/-- Semaphore `b` of an array of sixteen. -/
theorem inb_sem (b : Fin 16) (a : Fin 1) : (![b.val] : Fin 1 → ℕ) a + S1.size a ≤ S16.size a := by
  have h := b.isLt
  match a with
  | 0 => exact (show b.val + 1 ≤ 16 by omega)

/-- The rectangle of block `s`. -/
abbrev rows (s : Fin 32) : Rect S1x128x9x128x128 := Rect.unit (s := S1x128x9x128x128) ![0, 4 * s.val, 0, 0, 0] S1x4x9x128x128.size (inb_rows s)
/-- The rectangle of slot `b`. -/
abbrev plane (b : Fin 16) : Rect S16x1x4x9x128x128 := Rect.unit (s := S16x1x4x9x128x128) ![b.val, 0, 0, 0, 0, 0] S1x1x4x9x128x128.size (inb_plane b)

/-- The kernel's ring: blocks of the argument and of the result, the scratch buffer's planes, its two arrays of semaphores. -/
def ring : Ring sig S1x4x9x128x128 32 16 where
  x s := (Memref.whole main_arg0 : Memref sig .tc .hbm S1x128x9x128x128 .f32).slice (rows s) (fun _ => rfl)
  o s := (Memref.whole main_v0 : Memref sig .tc .hbm S1x128x9x128x128 .f32).slice (rows s) (fun _ => rfl)
  slot b := ((Memref.whole cc0_scratch0 : Memref sig .tc .vmem S16x1x4x9x128x128 .f32).slice (plane b) (fun _ => rfl)).squeeze
    S1x4x9x128x128 squeezes_S1x1x4x9x128x128_S1x4x9x128x128
  semIn b := ((cc0_scratch1.slice (Rect.unit (s := S16) ![b.val] S1.size (inb_sem b))).squeeze S_ squeezes_S1_S_).sem
  semOut b := ((cc0_scratch2.slice (Rect.unit (s := S16) ![b.val] S1.size (inb_sem b))).squeeze S_ squeezes_S1_S_).sem
  home := home

/-- The body is the ring's program of the schedule. -/
theorem body_eq (t : Fin cfg0.N) : bodyAt0 (F := F) t = ring.prog schedule := by
  sl_kernel_rfl

/-! ## The pieces of the buffers -/

/-- The thirty-two blocks cut an array. -/
theorem cuts_rows : Cuts fun s : Fin 32 => (rows s).set where
  cover i := by
    have h1 : (i 1).val < 128 := (i 1).isLt
    refine ⟨⟨(i 1).val / 4, by omega⟩, Rect.mem_set_unit.mpr fun a => ?_⟩
    have h := (i a).isLt
    match a with
    | 0 => exact ⟨Nat.zero_le _, h⟩
    | 1 => exact show 4 * ((i 1).val / 4) ≤ (i 1).val ∧ (i 1).val < 4 * ((i 1).val / 4) + 4 by omega
    | 2 => exact ⟨Nat.zero_le _, h⟩
    | 3 => exact ⟨Nat.zero_le _, h⟩
    | 4 => exact ⟨Nat.zero_le _, h⟩
  apart s s' hne := Rect.unit_disjoint (1 : Fin 5) (by
    have : s.val ≠ s'.val := fun h => hne (Fin.ext h)
    show 4 * s.val + 4 ≤ 4 * s'.val ∨ 4 * s'.val + 4 ≤ 4 * s.val
    omega)

/-- The sixteen slots cut the scratch buffer. -/
theorem cuts_plane : Cuts fun b : Fin 16 => (plane b).set where
  cover i := by
    refine ⟨⟨(i 0).val, (i 0).isLt⟩, Rect.mem_set_unit.mpr fun a => ?_⟩
    have h := (i a).isLt
    match a with
    | 0 => exact ⟨Nat.le_refl _, Nat.lt_succ_self _⟩
    | 1 => exact ⟨Nat.zero_le _, h⟩
    | 2 => exact ⟨Nat.zero_le _, h⟩
    | 3 => exact ⟨Nat.zero_le _, h⟩
    | 4 => exact ⟨Nat.zero_le _, h⟩
    | 5 => exact ⟨Nat.zero_le _, h⟩
  apart b b' hne := Rect.unit_disjoint (0 : Fin 6) (by
    have : b.val ≠ b'.val := fun h => hne (Fin.ext h)
    show b.val + 1 ≤ b'.val ∨ b'.val + 1 ≤ b.val
    omega)

/-- A block's elements where it is read. -/
abbrev setX (s : Fin 32) : Finset S1x128x9x128x128.Idx := (ring.x s).view.set
/-- A block's elements where it is written. -/
abbrev setO (s : Fin 32) : Finset S1x128x9x128x128.Idx := (ring.o s).view.set
/-- A slot's elements. -/
abbrev setSlot (b : Fin 16) : Finset S16x1x4x9x128x128.Idx := (ring.slot b).view.set

theorem cuts_x : Cuts setX := by
  rw [show setX = fun s => (rows s).set from funext fun s => View.set_slice_whole main_arg0 (rows s)]
  exact cuts_rows
theorem cuts_o : Cuts setO := by
  rw [show setO = fun s => (rows s).set from funext fun s => View.set_slice_whole main_v0 (rows s)]
  exact cuts_rows
theorem cuts_slot : Cuts setSlot := by
  rw [show setSlot = fun b => (plane b).set from
    funext fun b => (View.set_reshape _ _).trans (View.set_slice_whole cc0_scratch0 (plane b))]
  exact cuts_plane

variable (c : Dev nD)

/-- The argument whole is its thirty-two blocks. -/
theorem arg_pieces (f : Buf (Elt F) ((c : Thread nD τ).loc main_arg0)) :
    ((c : Thread nD τ).loc main_arg0 ↦{fullShare} f : sProp 𝕄) = bigSep Finset.univ fun s => ring.srcPt c (fun _ => f) s :=
  pointsTo_pieces cuts_x f

/-- The result whole, before the copy, is its thirty-two blocks. -/
theorem res_pieces (f : Buf (Elt F) ((c : Thread nD τ).loc main_v0)) :
    ((c : Thread nD τ).loc main_v0 ↦{fullShare} f : sProp 𝕄) = bigSep Finset.univ fun s => ring.oldPt c (fun _ => f) s :=
  pointsTo_pieces cuts_o f

/-- The argument's contents, as contents of the result: the two arrays have one shape and one element type. -/
abbrev asRes (f : Buf (Elt F) ((c : Thread nD τ).loc main_arg0)) : Buf (Elt F) ((c : Thread nD τ).loc main_v0) := f

/-- A block is read and written at the same rows. -/
theorem read_block (s : Fin 32) (f : Buf (Elt F) ((c : Thread nD τ).loc main_arg0)) :
    (ring.x s).view.read (Elt F) f = (ring.o s).view.read (Elt F) (asRes c f) := rfl

/-- The thirty-two blocks landed are the result whole at the argument's contents. -/
theorem res_landed (f : Buf (Elt F) ((c : Thread nD τ).loc main_arg0)) (g : Buf (Elt F) ((c : Thread nD τ).loc main_v0)) :
    (bigSep Finset.univ fun s => ring.newPt c (fun _ => f) (fun _ => g) s : sProp 𝕄)
      = (c : Thread nD τ).loc main_v0 ↦{fullShare} asRes c f := by
  rw [res_pieces]
  refine bigSep_congr fun s _ => ?_
  unfold Ring.newPt Ring.oldPt
  rw [read_block]
  exact pointsTo_landed c (ring.o s).view g (asRes c f)

/-! ## The semaphores -/

/-- The kernel's own semaphores: the loads' sixteen and the stores' sixteen. -/
def osem : Fin 16 ⊕ Fin 16 → SemLoc sig := Sum.elim (fun b => .dma (ring.semIn b)) (fun b => .dma (ring.semOut b))

theorem ownSemFacts : Pipeline.OwnSemFacts cfg0.spec osem := by decide +kernel

/-- The kernel's semaphores at zero, slot by slot. -/
theorem ownSems_eq :
    (Pipeline.ownSems0 osem c : sProp 𝕄)
      = iprop(bigSep Finset.univ (fun b => Ring.zeroAt c (ring.semIn b)) ∗ bigSep Finset.univ (fun b => Ring.zeroAt c (ring.semOut b))) := by
  unfold Pipeline.ownSems0
  exact bigSep_univ_sum _

/-- The sixteen slots, the loads' semaphores and the stores' semaphores, taken apart. -/
theorem slots_eq :
    (bigSep Finset.univ (fun b => ring.slotAt c b true) : sProp 𝕄)
      = iprop(bigSep Finset.univ (fun b => iprop(∃ f, ring.slotPt c b f)) ∗ Pipeline.ownSems0 osem c) := by
  rw [ownSems_eq]
  refine (bigSep_sep Finset.univ (fun b => iprop(∃ f, ring.slotPt c b f)) fun b => iprop(Ring.zeroAt c (ring.semIn b) ∗ Ring.zeroAt c (ring.semOut b))).trans ?_
  exact congrArg (fun P => iprop(bigSep Finset.univ (fun b => iprop(∃ f, ring.slotPt c b f)) ∗ P)) (bigSep_sep _ _ _)

/-- The scratch buffer at some contents and the kernel's semaphores at zero are the sixteen slots free. -/
theorem slots_free :
    iprop((∃ f : Buf (Elt F) ((c : Thread nD τ).loc cc0_scratch0), (c : Thread nD τ).loc cc0_scratch0 ↦{fullShare} f) ∗ Pipeline.ownSems0 osem c)
      ⊢ (bigSep Finset.univ (fun b => ring.slotAt c b true) : sProp 𝕄) := by
  rw [slots_eq]
  iintro ⟨⟨%f, Hf⟩, Hs⟩
  isplitl [Hf]
  · have hb (b : Fin 16) : (ring.slotPt c b f : sProp 𝕄) ⊢ iprop(∃ f, ring.slotPt c b f) := by
      iintro H
      iexists f
      iexact H
    iapply ((BIBase.Entails.of_eq (pointsTo_pieces cuts_slot f)).trans (bigSep_mono fun b _ => hb b))
    iexact Hf
  iexact Hs

/-- The sixteen slots free are the scratch buffer at some contents and the kernel's semaphores at zero. -/
theorem slots_back :
    (bigSep Finset.univ (fun b => ring.slotAt c b true) : sProp 𝕄)
      ⊢ iprop((∃ f : Buf (Elt F) ((c : Thread nD τ).loc cc0_scratch0), (c : Thread nD τ).loc cc0_scratch0 ↦{fullShare} f) ∗ Pipeline.ownSems0 osem c) := by
  rw [slots_eq]
  iintro ⟨Hf, Hs⟩
  isplitl [Hf]
  · iapply (pointsTo_pieces_join (ℓ := (c : Thread nD τ).loc cc0_scratch0) cuts_slot)
    iexact Hf
  iexact Hs

end Cert.Kernel.Copy

end
-- ==== Proof.KernelRun.lean ====
/-
  The kernel's run: from any memory it terminates with the argument unchanged, the result at the argument's contents
  and every semaphore at zero.
-/
module

public import proofs.«01_k».proof.Proof.KernelEnds
public import Idealize.ShloMosaic.Lib.Pipeline.FrameBody
public import Idealize.ShloMosaic.Adequacy

@[expose] public section

noncomputable section

namespace Cert.Kernel.Copy

open Cert.Kernel Cert.Kernel.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UC sig nD τ) ℕ

variable (m : (ℓ : Loc nD τ sig) → Buf (Elt F) ℓ) (c : Dev nD)

/-! ## What the buffers hold before and after -/

/-- A buffer at launch. -/
abbrev atLaunch (b : Ref sig .tc) : Buf (Elt F) ((c : Thread nD τ).loc b) := m ((c : Thread nD τ).loc b)

/-- A buffer after the kernel: the result holds the argument, every other buffer what it held at launch. -/
def atEnd : (b : Ref sig .tc) → Buf (Elt F) ((c : Thread nD τ).loc b) :=
  Function.update (atLaunch m c) main_v0 (asRes c (atLaunch m c main_arg0))

theorem atEnd_arg : atEnd m c main_arg0 = atLaunch m c main_arg0 := Function.update_of_ne (by decide) _ _
theorem atEnd_res : atEnd m c main_v0 = asRes c (atLaunch m c main_arg0) := Function.update_self _ _ _

/-- The buffers the kernel reads and writes itself: the argument and the result. -/
def arrays : Finset (Ref sig .tc) := {main_arg0, main_v0}

theorem routed_eq (W : (b : Ref sig .tc) → Buf (Elt F) ((c : Thread nD τ).loc b)) :
    (Pipeline.routed arrays c W : sProp 𝕄)
      = iprop(((c : Thread nD τ).loc main_arg0 ↦{fullShare} W main_arg0) ∗ (c : Thread nD τ).loc main_v0 ↦{fullShare} W main_v0) := by
  unfold Pipeline.routed
  rw [BI.bigSep_eq_bigSepL_of_eq [main_arg0, main_v0] (by decide) (by decide)]
  rfl

/-! ## The body -/

/-- The body copies the argument into the result. -/
theorem wp_body (t : Fin cfg0.N) :
    iprop(Pipeline.Ends cfg0.spec osem arrays c (atLaunch m c) ∗ ∃ W, owes (c : Thread nD τ) 0 W)
      ⊢ (wp frame (wpE (defs₀ (F := F)) Variants.none (c : Thread nD τ) none) Set.univ (bodyAt0 t) fun _ =>
          iprop(Pipeline.Ends cfg0.spec osem arrays c (atEnd m c) ∗ ∃ W, owes (c : Thread nD τ) 0 W) : sProp 𝕄) := by
  rw [body_eq]
  unfold Pipeline.Ends
  rw [scopedRest0_eq, routed_eq, routed_eq, atEnd_arg, atEnd_res]
  have hrun := ring.wp_complete c (fun _ => atLaunch m c main_arg0) (fun _ => atLaunch m c main_v0)
    (defs := defs₀ (F := F)) (𝒱 := Variants.none) (by decide +kernel) schedule_complete
  rw [← arg_pieces, ← res_pieces, res_landed] at hrun
  iintro ⟨⟨⟨Hx, Ho⟩, Hq, Hs, Hg⟩, HW⟩
  iapply (wp_wand) $$ [Hx Ho Hq Hs HW] [Hg]
  · iapply hrun
    isplitl [Hx Ho]
    · isplitl [Hx] <;> iassumption
    isplitl [Hq Hs]
    · iapply (slots_free c)
      isplitl [Hs] <;> iassumption
    iexact HW
  iintro %_ ⟨⟨Hx, Ho⟩, Hb, HW⟩
  ihave H := (slots_back c) $$ Hb
  icases H with ⟨Hs, Hq⟩
  isplitr [HW]
  · isplitl [Hx Ho]
    · isplitl [Hx] <;> iassumption
    isplitl [Hq]; · iexact Hq
    isplitl [Hs] <;> iassumption
  iexact HW

/-! ## The launch -/

/-- The proof data of the one pipeline: no window, nothing owed, the buffers as at launch before the point and as at the
    end after it. -/
def dats (_ : Fin 1) (c : Dev nD) : Dat τ (Elt F) Unit ℕ (Pipeline.UC sig nD τ) ℕ cfg0 c where
  A w := w.elim0
  after w := w.elim0
  Φ t := Pipeline.Ends cfg0.spec osem arrays c (if t.val = 0 then atLaunch m c else atEnd m c)
  q _ := fullShare
  owed _ := 0

theorem defs₀_row (t : Fin cfg0.N) :
    defs₀ (F := F) .tc cfg0.body (cfg0.bodyArgs t (cfg0.slots t)) = bodyAt0 t := by
  unfold defs₀; rw [Defs.onTc_tc]

theorem no_windows {M : Type} [URA M] (Φ : Fin cfg0.W → sProp M) : bigSep Finset.univ Φ = BI.emp :=
  (congrArg (fun S => bigSep S Φ) (Finset.univ_eq_empty (α := Fin 0))).trans bigSep_empty

theorem body_obligation : BodyObligation (dats m 0 c) (defs₀ (F := F)) Variants.none () Set.univ := fun t => by
  obtain rfl := fin_N0 t
  rw [no_windows, no_windows, defs₀_row]
  unfold Dat.owesAt Pipeline.owesWithin
  refine triple_restated (wp_body m c t0_0) rfl ?_ fun _ => ?_
  · refine (show iprop(Pipeline.Ends cfg0.spec osem arrays c (atLaunch m c) ∗ (∃ W, ⌜_⌝ ∗ owes (c : Thread nD τ) 0 W) ∗ emp) ⊢ _ from ?_)
    iintro ⟨HE, ⟨%W, -, HW⟩, -⟩
    isplitl [HE]; · iexact HE
    iexists W; iexact HW
  · refine (show _ ⊢ iprop(Pipeline.Ends cfg0.spec osem arrays c (atEnd m c) ∗ (∃ W, ⌜_⌝ ∗ owes (c : Thread nD τ) 0 W) ∗ emp) from ?_)
    iintro ⟨HE, %W, HW⟩
    isplitl [HE]; · iexact HE
    isplitl [HW]
    · iexists W
      isplitr; · ipureintro; exact fun _ _ => Or.inl trivial
      iexact HW
    iempintro

/-- @main is its one kernel. -/
theorem hmain (𝒱₀ : Variants) : Pipeline.HMain (Ix := Unit) (Name := ℕ) (U := Pipeline.UC sig nD τ) (Lvl := ℕ) cfgs 0 defs₀ 𝒱₀ m (main (F := F)) (atLaunch m) :=
  Pipeline.hmain_region cfgs 0 defs₀ 𝒱₀ m main fun c => (main_chain c).trans rfl

set_option backward.isDefEq.respectTransparency.types false in
/-- THE RUN: every execution terminates with the argument unchanged, the result at the argument's contents and every
    semaphore at zero. -/
theorem run (g : Dev nD → PrngReg) :
    θ_run defs (onTc (τ := τ) (main (F := F))) ⟨m, fun _ => 0, g⟩ (fun r => (∀ c : Dev nD,
      r.2.mem ((c : Thread nD τ).loc main_arg0) = m ((c : Thread nD τ).loc main_arg0)
      ∧ r.2.mem ((c : Thread nD τ).loc main_v0) = asRes c (m ((c : Thread nD τ).loc main_arg0)))
      ∧ r.2.sem = fun _ => 0) :=
  Pipeline.θ_run_frame_routed cfgs (dats m) (0 : Fin 1) launch0 ownSemFacts defs₀ Variants.none m g main
    (hbody := fun c => (body_obligation m c).loose) (hshare := fun c => (dats m 0 c).share_full fun _ => rfl)
    (howed := fun _ _ => rfl) (V := atLaunch m) (hmain := hmain m Variants.none) (hA := fun _ w => w.elim0)
    (R := arrays) (hR := by decide) (Y := atEnd m)
    (hin := fun _ => .rfl) (hout := fun _ => .rfl)
    (Q' := _) (hQ' := fun _ h => ⟨fun c => ⟨((h.1 c).2.1 main_arg0 (by decide)).trans (atEnd_arg m c),
      ((h.1 c).2.1 main_v0 (by decide)).trans (atEnd_res m c)⟩, h.2⟩)

end Cert.Kernel.Copy

end
-- ==== Proof.Twins.lean ====
/-
  The other two programs. The idealized kernel is the kernel's own text, so the kernel's run is its run; the idealized
  reference returns its argument, so it runs without touching memory.
-/
module

public import proofs.«01_k».proof.Proof.KernelRun
public import proofs.«01_k».proof.KernelIdeal
public import proofs.«01_k».proof.ReferenceIdeal
public import proofs.«01_k».proof.Proof.Gen.KernelIdeal
public import proofs.«01_k».proof.Proof.Gen.ReferenceIdeal
public import Idealize.ShloMosaic.PureOps.Ideal
public import Idealize.ShloMosaic.Lib.Quiescent
public import Idealize.ShloMosaic.Lib.StableHlo.Run

@[expose] public section

noncomputable section

open Idealize.ShloMosaic Idealize.ShloMosaic.TcCoe Idealize.SL.Sem

namespace Cert.KernelIdeal.Copy

open Cert.KernelIdeal Cert.KernelIdeal.Gen

variable {F : FTy → Type} [FloatOps F]

/-- Both programs have one @main. -/
theorem main_same : main (F := F) = Cert.Kernel.main (F := F) := rfl

/-- Both programs have one body table. -/
theorem defs_same : defs (F := F) = Cert.Kernel.defs (F := F) := rfl

/-- THE RUN: every execution of the idealized kernel terminates with the argument unchanged, the result at the argument's
    contents and every semaphore at zero. -/
theorem run (m : (ℓ : Loc nD τ sig) → Buf (Elt F) ℓ) (g : Dev nD → PrngReg) :
    θ_run defs (onTc (τ := τ) (main (F := F))) ⟨m, fun _ => 0, g⟩ (fun r => (∀ c : Dev nD,
      r.2.mem ((c : Thread nD τ).loc main_arg0) = m ((c : Thread nD τ).loc main_arg0)
      ∧ r.2.mem ((c : Thread nD τ).loc main_v0) = Cert.Kernel.Copy.asRes c (m ((c : Thread nD τ).loc main_arg0)))
      ∧ r.2.sem = fun _ => 0) := by
  rw [main_same, defs_same]
  exact Cert.Kernel.Copy.run m g

end Cert.KernelIdeal.Copy

namespace Cert.ReferenceIdeal.Copy

open Cert.ReferenceIdeal Cert.ReferenceIdeal.Gen

variable {F : FTy → Type} [FloatOps F]

/-- THE RUN: every execution of the reference terminates with the argument, which is its result, unchanged and every
    semaphore at zero. -/
theorem run (m : (ℓ : Loc nD τ sig) → Buf (Elt F) ℓ) (g : Dev nD → PrngReg) :
    θ_run defs (onTc (τ := τ) (main (F := F))) ⟨m, fun _ => 0, g⟩ (fun r => (∀ c : Dev nD,
      r.2.mem ((c : Thread nD τ).loc main_arg0) = m ((c : Thread nD τ).loc main_arg0))
      ∧ r.2.sem = fun _ => 0) :=
  (θ_run defs _ _).mono (fun r h => ⟨fun c => h c main_arg0, sem_eq_zero_of_no_sems (by decide) r.2⟩)
    (StableHlo.run_seq (by decide) (by decide) defs main (fun _ => []) (fun _ => rfl) (fun _ => trivial) m g)

end Cert.ReferenceIdeal.Copy

end
-- ==== Proof.lean ====
/-
  The certificate: the kernel and its idealization run, leave their argument unchanged and every semaphore at zero, and
  end with the result equal to the argument, which is what the reference returns.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.KernelRun
public import proofs.«01_k».proof.Proof.Twins

@[expose] public section

noncomputable section

namespace Cert.Proof

open Idealize.ShloMosaic Idealize.ShloMosaic.TcCoe Idealize.SL.Sem

/-- The kernel runs at machine floats, its argument unchanged and every semaphore at zero. -/
theorem frame_kernel : Cert.quiescent_Kernel (hKernel := Cert.Kernel.Gen.facts) := fun m g _ =>
  (θ_run _ _ _).mono (fun _ h => ⟨fun c => (h.1 c).1, h.2⟩) (Cert.Kernel.Copy.run (F := Bits) m g)

/-- The idealized kernel runs, its argument unchanged and every semaphore at zero. -/
theorem frame_ideal : Cert.quiescent_KernelIdeal (hKernelIdeal := Cert.KernelIdeal.Gen.facts) := fun m g _ =>
  (θ_run _ _ _).mono (fun _ h => ⟨fun c => (h.1 c).1, h.2⟩) (Cert.KernelIdeal.Copy.run (F := Ideal) m g)

/-- The reference runs, its argument unchanged and every semaphore at zero. -/
theorem frame_reference : Cert.quiescent_ReferenceIdeal (hReferenceIdeal := Cert.ReferenceIdeal.Gen.facts) := fun m g _ =>
  Cert.ReferenceIdeal.Copy.run (F := Ideal) m g

/-- The idealized kernel's result is the reference's, element by element: the argument. -/
theorem value : Cert.algebraic_KernelIdeal_ReferenceIdeal (hKernelIdeal := Cert.KernelIdeal.Gen.facts)
    (hReferenceIdeal := Cert.ReferenceIdeal.Gen.facts) := fun m g m' g' _ hagree =>
  ⟨fun c => Cert.Kernel.Copy.asRes c (m ((c : Thread Cert.KernelIdeal.nD Cert.KernelIdeal.τ).loc Cert.KernelIdeal.main_arg0)),
    (θ_run _ _ _).mono (fun _ h c => ⟨(h.1 c).2, (h.1 c).1⟩) (Cert.KernelIdeal.Copy.run (F := Ideal) m g),
    (θ_run _ _ _).mono (fun _ h c => ⟨(h.1 c).trans (hagree c), h.1 c⟩) (Cert.ReferenceIdeal.Copy.run (F := Ideal) m' g')⟩

/-- Every claim of the certificate. -/
theorem claim : Cert.Claim :=
  ⟨Cert.Kernel.Gen.facts, Cert.KernelIdeal.Gen.facts, Cert.ReferenceIdeal.Gen.facts,
    frame_kernel, frame_ideal, frame_reference, trivial, value⟩

end Cert.Proof

end
